-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000 : Shape := ⟨1, ![100000]⟩
abbrev S64x128 : Shape := ⟨2, ![64, 128]⟩
abbrev S256x1 : Shape := ⟨2, ![256, 1]⟩
abbrev S_ : Shape := ⟨0, ![]⟩

class Facts : Prop where
  bcast_S_S100000x128 : S_.BroadcastsInDim S100000x128 (![] : Fin 0 → Fin S100000x128.rank)
  bcast_S_S64x128 : S_.BroadcastsInDim S64x128 (![] : Fin 0 → Fin S64x128.rank)
  bcast_S_S256x1 : S_.BroadcastsInDim S256x1 (![] : Fin 0 → Fin S256x1.rank)

variable [Facts]

def fn {F : FTy → Type} [FloatOps F] (main_arg0 : FVec F S100000x128 .f32) (main_arg1 : IVec S100000 32) (main_arg2 : FVec F S64x128 .f32) (main_arg3 : FVec F S256x1 .f32) : IVec S100000x128 1 × IVec S64x128 1 × IVec S256x1 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_v3 : FVec F S64x128 .f32 := Host.absf main_arg2
  let main_cst_0 : FVec F S_ .f32 := constant S_ .f32 0x7F800000#32
  let main_v4 : FVec F S64x128 .f32 := broadcastInDim S64x128 ![] bcast_S_S64x128 main_cst_0
  let main_v5 : IVec S64x128 1 := cmpf .olt main_v3 main_v4
  let main_v6 : FVec F S256x1 .f32 := Host.absf main_arg3
  let main_cst_1 : FVec F S_ .f32 := constant S_ .f32 0x7F800000#32
  let main_v7 : FVec F S256x1 .f32 := broadcastInDim S256x1 ![] bcast_S_S256x1 main_cst_1
  let main_v8 : IVec S256x1 1 := cmpf .olt main_v6 main_v7
  (main_v2, main_v5, main_v8)
-- ==== Kernel.lean ====
abbrev S100000x128 : Shape := ⟨2, ![100000, 128]⟩
abbrev S100000 : Shape := ⟨1, ![100000]⟩
abbrev S64x128 : Shape := ⟨2, ![64, 128]⟩
abbrev S256x1 : Shape := ⟨2, ![256, 1]⟩
abbrev S2x128 : Shape := ⟨2, ![2, 128]⟩
abbrev S128x2 : Shape := ⟨2, ![128, 2]⟩
abbrev S5x1x20000 : Shape := ⟨3, ![5, 1, 20000]⟩
abbrev S1x1x20000 : Shape := ⟨3, ![1, 1, 20000]⟩
abbrev S20000x128 : Shape := ⟨2, ![20000, 128]⟩
abbrev S1x64 : Shape := ⟨2, ![1, 64]⟩
abbrev S20000 : Shape := ⟨1, ![20000]⟩
abbrev S64x2 : Shape := ⟨2, ![64, 2]⟩
abbrev S20000x64 : Shape := ⟨2, ![20000, 64]⟩
abbrev S20000x1 : Shape := ⟨2, ![20000, 1]⟩
abbrev S20000x192 : Shape := ⟨2, ![20000, 192]⟩
abbrev S128x1 : Shape := ⟨2, ![128, 1]⟩
abbrev S64x1 : Shape := ⟨2, ![64, 1]⟩
abbrev S192x1 : Shape := ⟨2, ![192, 1]⟩
abbrev S64 : Shape := ⟨1, ![64]⟩

abbrev nBuf : Space → Nat
  | .hbm => 8
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S64x128, .f32⟩
  | .hbm, ⟨3, _⟩ => ⟨S256x1, .f32⟩
  | .hbm, ⟨4, _⟩ => ⟨S2x128, .f32⟩
  | .hbm, ⟨5, _⟩ => ⟨S128x2, .f32⟩
  | .hbm, ⟨6, _⟩ => ⟨S5x1x20000, .i32⟩
  | .hbm, ⟨7, _⟩ => ⟨S64x128, .f32⟩
  | .local _ .vmem, ⟨0, _⟩ => ⟨S1x1x20000, .i32⟩
  | .local _ .vmem, ⟨1, _⟩ => ⟨S1x1x20000, .i32⟩
  | .local _ .vmem, ⟨2, _⟩ => ⟨S20000x128, .f32⟩
  | .local _ .vmem, ⟨3, _⟩ => ⟨S20000x128, .f32⟩
  | .local _ .vmem, ⟨4, _⟩ => ⟨S128x2, .f32⟩
  | .local _ .vmem, ⟨5, _⟩ => ⟨S64x128, .f32⟩
  | .local _ .vmem, ⟨6, _⟩ => ⟨S64x128, .f32⟩
  | .local _ .vmem, ⟨7, _⟩ => ⟨S1x64, .f32⟩
  | .local _ .vmem, ⟨8, _⟩ => ⟨S1x64, .f32⟩
  | .local _ .vmem, ⟨9, _⟩ => ⟨S64x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![5], ![false]⟩

def k0_cond2 (i : grid0.Coords) : BitVec 1 :=
  let arg0 : BitVec 32 := BitVec.ofNat 32 (i 0).val
  let c4_i32 : BitVec 32 := 4#32
  let v68 : BitVec 1 := Scalar.cmpi .eq arg0 c4_i32
  let v69 : BitVec 32 := Scalar.extui v68
  let c0_i32_30 : BitVec 32 := 0#32
  let v70 : BitVec 1 := Scalar.cmpi .ne v69 c0_i32_30
  v70

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x20000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S100000x128 : Shape := ⟨2, ![100000, 128]⟩
abbrev S100000 : Shape := ⟨1, ![100000]⟩
abbrev S64x128 : Shape := ⟨2, ![64, 128]⟩
abbrev S256x1 : Shape := ⟨2, ![256, 1]⟩
abbrev S_ : Shape := ⟨0, ![]⟩
abbrev S100000x1 : Shape := ⟨2, ![100000, 1]⟩
abbrev S100000x256 : Shape := ⟨2, ![100000, 256]⟩
abbrev S64 : Shape := ⟨1, ![64]⟩
abbrev S1x64 : Shape := ⟨2, ![1, 64]⟩
abbrev S100000x64 : Shape := ⟨2, ![100000, 64]⟩

abbrev nBuf : Space → Nat
  | .hbm => 70
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S64x128, .f32⟩
  | .hbm, ⟨3, _⟩ => ⟨S256x1, .f32⟩
  | .hbm, ⟨4, _⟩ => ⟨S_, .i32⟩
  | .hbm, ⟨5, _⟩ => ⟨S100000, .i32⟩
  | .hbm, ⟨6, _⟩ => ⟨S100000, .i1⟩
  | .hbm, ⟨7, _⟩ => ⟨S_, .i32⟩
  | .hbm, ⟨8, _⟩ => ⟨S100000, .i32⟩
  | .hbm, ⟨9, _⟩ => ⟨S100000, .i32⟩
  | .hbm, ⟨10, _⟩ => ⟨S100000, .i32⟩
  | .hbm, ⟨11, _⟩ => ⟨S100000x1, .i32⟩
  | .hbm, ⟨12, _⟩ => ⟨S100000x128, .f32⟩
  | .hbm, ⟨13, _⟩ => ⟨S100000x256, .f32⟩
  | .hbm, ⟨14, _⟩ => ⟨S100000x1, .f32⟩
  | .hbm, ⟨15, _⟩ => ⟨S_, .f32⟩
  | .hbm, ⟨16, _⟩ => ⟨S100000x1, .f32⟩
  | .hbm, ⟨17, _⟩ => ⟨S100000x1, .i1⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S100000x1, .f32⟩
  | .hbm, ⟨22, _⟩ => ⟨S100000, .f32⟩
  | .hbm, ⟨23, _⟩ => ⟨S100000x1, .i32⟩
  | .hbm, ⟨24, _⟩ => ⟨S64, .i32⟩
  | .hbm, ⟨25, _⟩ => ⟨S1x64, .i32⟩
  | .hbm, ⟨26, _⟩ => ⟨S100000x64, .i32⟩
  | .hbm, ⟨27, _⟩ => ⟨S100000x64, .i32⟩
  | .hbm, ⟨28, _⟩ => ⟨S100000x64, .i1⟩
  | .hbm, ⟨29, _⟩ => ⟨S100000x1, .f32⟩
  | .hbm, ⟨30, _⟩ => ⟨S_, .f32⟩
  | .hbm, ⟨31, _⟩ => ⟨S_, .f32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S_, .f32⟩
  | .hbm, ⟨36, _⟩ => ⟨S64, .f32⟩
  | .hbm, ⟨37, _⟩ => ⟨S_, .i32⟩
  | .hbm, ⟨38, _⟩ => ⟨S100000, .i32⟩
  | .hbm, ⟨39, _⟩ => ⟨S100000, .i1⟩
  | .hbm, ⟨40, _⟩ => ⟨S_, .i32⟩
  | .hbm, ⟨41, _⟩ => ⟨S100000, .i32⟩
  | .hbm, ⟨42, _⟩ => ⟨S100000, .i32⟩
  | .hbm, ⟨43, _⟩ => ⟨S100000, .i32⟩
  | .hbm, ⟨44, _⟩ => ⟨S100000x1, .i32⟩
  | .hbm, ⟨45, _⟩ => ⟨S100000, .f32⟩
  | .hbm, ⟨46, _⟩ => ⟨S100000, .f32⟩
  | .hbm, ⟨47, _⟩ => ⟨S100000, .f32⟩
  | .hbm, ⟨48, _⟩ => ⟨S_, .f32⟩
  | .hbm, ⟨49, _⟩ => ⟨S64, .f32⟩
  | .hbm, ⟨50, _⟩ => ⟨S100000x1, .i32⟩
  | .hbm, ⟨51, _⟩ => ⟨S64, .f32⟩
  | .hbm, ⟨52, _⟩ => ⟨S_, .i32⟩
  | .hbm, ⟨53, _⟩ => ⟨S100000, .i32⟩
  | .hbm, ⟨54, _⟩ => ⟨S100000, .i1⟩
  | .hbm, ⟨55, _⟩ => ⟨S_, .i32⟩
  | .hbm, ⟨56, _⟩ => ⟨S100000, .i32⟩
  | .hbm, ⟨57, _⟩ => ⟨S100000, .i32⟩
  | .hbm, ⟨58, _⟩ => ⟨S100000, .i32⟩
  | .hbm, ⟨59, _⟩ => ⟨S100000x1, .i32⟩
  | .hbm, ⟨60, _⟩ => ⟨S100000, .f32⟩
  | .hbm, ⟨61, _⟩ => ⟨S100000, .f32⟩
  | .hbm, ⟨62, _⟩ => ⟨S100000x128, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S64x128, .f32⟩
  | .hbm, ⟨68, _⟩ => ⟨S100000x1, .i32⟩
  | .hbm, ⟨69, _⟩ => ⟨S64x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_c_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Proof.Step.lean ====
/- What one grid point of the kernel leaves in its three scratch buffers (running maximum, sum of the
   weights, weighted sum) and, at the last point, in the result's block: the body's payloads over the
   point's input blocks and what the buffers held before. -/
module

public import proofs.«01_k».proof.Proof.Gen.KernelIdeal.Value
public import Idealize.ShloMosaic.Lib.Pipeline.ValueKit

@[expose] public section

noncomputable section

namespace Cert.KernelIdeal.Step

open Cert.KernelIdeal Cert.KernelIdeal.Gen Idealize.ShloMosaic Idealize.ShloMosaic.TcCoe Idealize.SL.Sem

variable {F : FTy → Type} [FloatOps F]

/-- The blocks that one point reads: the graph numbers, the rows, the two halves of the weights, the queries. -/
structure Blocks (F : FTy → Type) where
  seg : Vec F S1x1x20000 .i32
  rows : Vec F S20000x128 .f32
  wts : Vec F S128x2 .f32
  qs : Vec F S64x128 .f32

/-- What the scratch buffers hold between points. -/
structure Carry (F : FTy → Type) where
  m : Vec F S1x64 .f32
  s : Vec F S1x64 .f32
  acc : Vec F S64x128 .f32

/-- The scratch buffers as the first point sets them. -/
def start : Carry F := ⟨k0_pay6, k0_pay7, k0_pay8⟩

/-- The scratch buffers after a point that reads the blocks `b`. -/
def step (b : Blocks F) (y : Carry F) : Carry F :=
  ⟨k0_pay2 (k0_pay13 b.rows b.seg b.wts b.qs y.m),
   k0_pay3 (k0_pay9 b.seg) (k0_pay10 b.seg) (k0_pay11 b.rows b.seg b.wts b.qs) (k0_pay14 b.rows b.seg b.wts b.qs y.m)
     (k0_pay15 b.rows b.seg b.wts b.qs y.m) y.s,
   k0_pay4 b.rows (k0_pay9 b.seg) (k0_pay10 b.seg) (k0_pay11 b.rows b.seg b.wts b.qs)
     (k0_pay14 b.rows b.seg b.wts b.qs y.m) (k0_pay15 b.rows b.seg b.wts b.qs y.m) y.acc⟩

section Cases

variable (c : Dev nD) (i : grid0.Coords)
  (arg1 : Memref sig .tc .vmem S1x1x20000 .i32) (harg1 : arg1.IsWhole)
  (arg2 : Memref sig .tc .vmem S20000x128 .f32) (harg2 : arg2.IsWhole)
  (arg3 : Memref sig .tc .vmem S128x2 .f32) (harg3 : arg3.IsWhole)
  (arg4 : Memref sig .tc .vmem S64x128 .f32) (harg4 : arg4.IsWhole)
  (arg5 : Memref sig .tc .vmem S64x128 .f32) (harg5 : arg5.IsWhole)
  (arg6 : Memref sig .tc .vmem S1x64 .f32) (harg6 : arg6.IsWhole)
  (arg7 : Memref sig .tc .vmem S1x64 .f32) (harg7 : arg7.IsWhole)
  (arg8 : Memref sig .tc .vmem S64x128 .f32) (harg8 : arg8.IsWhole)
  (b : Blocks F) (y : Carry F)

/-- The first point's running maximum. -/
theorem first_m (hc0 : cond0_0 i) (hc1 : ¬cond0_1 i) :
    sout0_A_0 c i arg1 harg1 arg2 harg2 arg3 harg3 arg4 harg4 arg5 harg5 arg6 harg6 arg7 harg7 arg8 harg8 hc0 hc1
      b.seg b.rows b.wts b.qs = (step b start).m := by
  frame_out
  rfl

/-- The first point's sum of the weights. -/
theorem first_s (hc0 : cond0_0 i) (hc1 : ¬cond0_1 i) :
    sout0_A_1 c i arg1 harg1 arg2 harg2 arg3 harg3 arg4 harg4 arg5 harg5 arg6 harg6 arg7 harg7 arg8 harg8 hc0 hc1
      b.seg b.rows b.wts b.qs = (step b start).s := by
  frame_out
  rfl

/-- The first point's weighted sum. -/
theorem first_acc (hc0 : cond0_0 i) (hc1 : ¬cond0_1 i) :
    sout0_A_2 c i arg1 harg1 arg2 harg2 arg3 harg3 arg4 harg4 arg5 harg5 arg6 harg6 arg7 harg7 arg8 harg8 hc0 hc1
      b.seg b.rows b.wts b.qs = (step b start).acc := by
  frame_out
  rfl

/-- A middle point's running maximum. -/
theorem middle_m (hc0 : ¬cond0_0 i) (hc1 : ¬cond0_1 i) :
    sout0_B_0 c i arg1 harg1 arg2 harg2 arg3 harg3 arg4 harg4 arg5 harg5 arg6 harg6 arg7 harg7 arg8 harg8 hc0 hc1
      b.seg b.rows b.wts b.qs y.m y.s y.acc = (step b y).m := by
  frame_out
  rfl

/-- A middle point's sum of the weights. -/
theorem middle_s (hc0 : ¬cond0_0 i) (hc1 : ¬cond0_1 i) :
    sout0_B_1 c i arg1 harg1 arg2 harg2 arg3 harg3 arg4 harg4 arg5 harg5 arg6 harg6 arg7 harg7 arg8 harg8 hc0 hc1
      b.seg b.rows b.wts b.qs y.m y.s y.acc = (step b y).s := by
  frame_out
  rfl

/-- A middle point's weighted sum. -/
theorem middle_acc (hc0 : ¬cond0_0 i) (hc1 : ¬cond0_1 i) :
    sout0_B_2 c i arg1 harg1 arg2 harg2 arg3 harg3 arg4 harg4 arg5 harg5 arg6 harg6 arg7 harg7 arg8 harg8 hc0 hc1
      b.seg b.rows b.wts b.qs y.m y.s y.acc = (step b y).acc := by
  frame_out
  rfl

/-- The last point's running maximum. -/
theorem last_m (hc0 : ¬cond0_0 i) (hc1 : cond0_1 i) :
    sout0_C_0 c i arg1 harg1 arg2 harg2 arg3 harg3 arg4 harg4 arg5 harg5 arg6 harg6 arg7 harg7 arg8 harg8 hc0 hc1
      b.seg b.rows b.wts b.qs y.m y.s y.acc = (step b y).m := by
  frame_out
  rfl

/-- The last point's sum of the weights. -/
theorem last_s (hc0 : ¬cond0_0 i) (hc1 : cond0_1 i) :
    sout0_C_1 c i arg1 harg1 arg2 harg2 arg3 harg3 arg4 harg4 arg5 harg5 arg6 harg6 arg7 harg7 arg8 harg8 hc0 hc1
      b.seg b.rows b.wts b.qs y.m y.s y.acc = (step b y).s := by
  frame_out
  rfl

/-- The last point's weighted sum. -/
theorem last_acc (hc0 : ¬cond0_0 i) (hc1 : cond0_1 i) :
    sout0_C_2 c i arg1 harg1 arg2 harg2 arg3 harg3 arg4 harg4 arg5 harg5 arg6 harg6 arg7 harg7 arg8 harg8 hc0 hc1
      b.seg b.rows b.wts b.qs y.m y.s y.acc = (step b y).acc := by
  frame_out
  rfl

/-- The block of the result that the last point writes. -/
theorem last_out (hc0 : ¬cond0_0 i) (hc1 : cond0_1 i) :
    out0_C_4 c i arg1 harg1 arg2 harg2 arg3 harg3 arg4 harg4 arg5 harg5 arg6 harg6 arg7 harg7 arg8 harg8 hc0 hc1
      b.seg b.rows b.wts b.qs y.m y.s y.acc
      = k0_pay5 (step b y).s (step b y).acc := by
  frame_out
  rfl

end Cases

end Cert.KernelIdeal.Step

end
-- ==== Proof.Fold.lean ====
/- The scratch buffers over the whole grid: after each point they hold the steps of all points so far,
   and the result is what the last point makes of them. -/
module

public import proofs.«01_k».proof.Proof.Step

@[expose] public section

noncomputable section

namespace Cert.KernelIdeal.Step

open Cert.KernelIdeal Cert.KernelIdeal.Gen Idealize.ShloMosaic Idealize.ShloMosaic.TcCoe Idealize.SL.Sem

variable {F : FTy → Type} [FloatOps F] (m : (ℓ : Loc nD τ sig) → Buf (Elt F) ℓ) (c : Dev nD)

/-- The blocks that point `t` reads. -/
def blocks (t : Fin cfg0.N) : Blocks F := ⟨iblk m c 0 t, iblk m c 1 t, iblk m c 2 t, iblk m c 3 t⟩

/-- The scratch buffers after point `n`. -/
def carry : (n : ℕ) → n < cfg0.N → Carry F
  | 0, h => step (blocks m c ⟨0, h⟩) start
  | n + 1, h => step (blocks m c ⟨n + 1, h⟩) (carry n (Nat.lt_of_succ_lt h))

/-- The first point. -/
theorem stAt_first (t : Fin cfg0.N) (a : Vec F S64x128 .f32 × Vec F S1x64 .f32 × Vec F S1x64 .f32 × Vec F S64x128 .f32) (h0 : t.val % 5 = 0) (h1 : ¬t.val % 5 = 4) :
    (Value.stAt0 m c t.val t.isLt a).2
      = ((step (blocks m c t) start).m, (step (blocks m c t) start).s, (step (blocks m c t) start).acc) := by
  rw [Value.stAt0_A m c t a h0 h1]
  have e₀ := first_m c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (blocks m c t) ((hcond0_0 t).mpr h0) (fun h => h1 ((hcond0_1 t).mp h))
  have e₁ := first_s c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (blocks m c t) ((hcond0_0 t).mpr h0) (fun h => h1 ((hcond0_1 t).mp h))
  have e₂ := first_acc c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (blocks m c t) ((hcond0_0 t).mpr h0) (fun h => h1 ((hcond0_1 t).mp h))
  rw [← e₀, ← e₁, ← e₂]
  rfl

/-- A middle point. -/
theorem stAt_middle (t : Fin cfg0.N) (a : Vec F S64x128 .f32 × Vec F S1x64 .f32 × Vec F S1x64 .f32 × Vec F S64x128 .f32) (h0 : ¬t.val % 5 = 0) (h1 : ¬t.val % 5 = 4) :
    (Value.stAt0 m c t.val t.isLt a).2
      = ((step (blocks m c t) ⟨a.2.1, a.2.2.1, a.2.2.2⟩).m, (step (blocks m c t) ⟨a.2.1, a.2.2.1, a.2.2.2⟩).s, (step (blocks m c t) ⟨a.2.1, a.2.2.1, a.2.2.2⟩).acc) := by
  rw [Value.stAt0_B m c t a h0 h1]
  have e₀ := middle_m c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (blocks m c t) ⟨a.2.1, a.2.2.1, a.2.2.2⟩ (fun h => h0 ((hcond0_0 t).mp h)) (fun h => h1 ((hcond0_1 t).mp h))
  have e₁ := middle_s c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (blocks m c t) ⟨a.2.1, a.2.2.1, a.2.2.2⟩ (fun h => h0 ((hcond0_0 t).mp h)) (fun h => h1 ((hcond0_1 t).mp h))
  have e₂ := middle_acc c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (blocks m c t) ⟨a.2.1, a.2.2.1, a.2.2.2⟩ (fun h => h0 ((hcond0_0 t).mp h)) (fun h => h1 ((hcond0_1 t).mp h))
  rw [← e₀, ← e₁, ← e₂]
  rfl

/-- The last point. -/
theorem stAt_last (t : Fin cfg0.N) (a : Vec F S64x128 .f32 × Vec F S1x64 .f32 × Vec F S1x64 .f32 × Vec F S64x128 .f32) (h0 : ¬t.val % 5 = 0) (h1 : t.val % 5 = 4) :
    (Value.stAt0 m c t.val t.isLt a).2
      = ((step (blocks m c t) ⟨a.2.1, a.2.2.1, a.2.2.2⟩).m, (step (blocks m c t) ⟨a.2.1, a.2.2.1, a.2.2.2⟩).s, (step (blocks m c t) ⟨a.2.1, a.2.2.1, a.2.2.2⟩).acc) := by
  rw [Value.stAt0_C m c t a h0 h1]
  have e₀ := last_m c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (blocks m c t) ⟨a.2.1, a.2.2.1, a.2.2.2⟩ (fun h => h0 ((hcond0_0 t).mp h)) ((hcond0_1 t).mpr h1)
  have e₁ := last_s c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (blocks m c t) ⟨a.2.1, a.2.2.1, a.2.2.2⟩ (fun h => h0 ((hcond0_0 t).mp h)) ((hcond0_1 t).mpr h1)
  have e₂ := last_acc c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (blocks m c t) ⟨a.2.1, a.2.2.1, a.2.2.2⟩ (fun h => h0 ((hcond0_0 t).mp h)) ((hcond0_1 t).mpr h1)
  rw [← e₀, ← e₁, ← e₂]
  rfl

/-- The block of the result that the last point writes. -/
theorem stAt_out (t : Fin cfg0.N) (a : Vec F S64x128 .f32 × Vec F S1x64 .f32 × Vec F S1x64 .f32 × Vec F S64x128 .f32) (h0 : ¬t.val % 5 = 0) (h1 : t.val % 5 = 4) :
    (Value.stAt0 m c t.val t.isLt a).1
      = k0_pay5 (step (blocks m c t) ⟨a.2.1, a.2.2.1, a.2.2.2⟩).s (step (blocks m c t) ⟨a.2.1, a.2.2.1, a.2.2.2⟩).acc := by
  rw [Value.stAt0_C m c t a h0 h1]
  exact last_out c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (blocks m c t) ⟨a.2.1, a.2.2.1, a.2.2.2⟩ (fun h => h0 ((hcond0_0 t).mp h)) ((hcond0_1 t).mpr h1)

/-- After point `n` the carried contents are `carry`. -/
theorem outs_carry : ∀ (n : ℕ) (h : n < cfg0.N),
    (outsAt0 m c n h).2 = ((carry m c n h).m, (carry m c n h).s, (carry m c n h).acc)
  | 0, h => by
    rw [Value.outsAt0_zero m c h]
    exact stAt_first m c ⟨0, h⟩ _ rfl (show ¬0 % 5 = 4 by omega)
  | n + 1, h => by
    have h5 : n + 1 < 5 := lt_of_lt_of_eq h N_0
    have ih := outs_carry n (Nat.lt_of_succ_lt h)
    rw [Value.outsAt0_succ m c n h]
    generalize outsAt0 m c n _ = a at ih
    obtain ⟨a0, y⟩ := a
    obtain rfl : y = _ := ih
    by_cases h4 : n + 1 = 4
    · exact stAt_last m c ⟨n + 1, h⟩ _ (show ¬(n + 1) % 5 = 0 by omega) (show (n + 1) % 5 = 4 by omega)
    · exact stAt_middle m c ⟨n + 1, h⟩ _ (show ¬(n + 1) % 5 = 0 by omega) (show ¬(n + 1) % 5 = 4 by omega)

/-- The result: the weighted sum over the sum of the weights, as the last point leaves them. -/
theorem result_eq (h : 4 < cfg0.N) :
    Value.G4 m c = k0_pay5 (carry m c 4 h).s (carry m c 4 h).acc := by
  have ih := outs_carry m c 3 (Nat.lt_of_succ_lt h)
  rw [Value.G4_last m c, ← Value.outsAt0_sweep m c 4 h, Value.outsAt0_succ m c 3 h]
  generalize outsAt0 m c 3 _ = a at ih
  obtain ⟨a0, y⟩ := a
  obtain rfl : y = _ := ih
  exact stAt_out m c ⟨3 + 1, h⟩ _ (show ¬(3 + 1) % 5 = 0 by omega) (show (3 + 1) % 5 = 4 by omega)

end Cert.KernelIdeal.Step

end
-- ==== Proof.Softmax.lean ====
/- The arithmetic of one graph's softmax pooling, apart from any program. The rows are numbered from
   zero, `p r` says that row `r` belongs to the graph, `g r` is the row's logit and `x r` one of its
   features; `neg` is the number at which the running maximum starts. A sweep in chunks keeps the
   running maximum (`best`), the sum of the weights relative to it (`mass`) and the weighted sum of
   the features (`pool`), and rescales the two sums when the maximum moves. -/
module

public import Idealize.ShloMosaic.PureOps
public import Idealize.ShloMosaic.PureOps.Ideal.Laws

@[expose] public section

noncomputable section

namespace Cert.Pool

open Idealize.ShloMosaic

variable (p : ℕ → Prop) [DecidablePred p] (g x : ℕ → EReal) (neg : EReal)

/-- The greatest logit among the first `n` rows of the graph (`⊥` if there is none). -/
def top (n : ℕ) : EReal := (Finset.range n).sup fun r => if p r then g r else ⊥

/-- The running maximum after `n` rows. -/
def best (n : ℕ) : EReal := neg ⊔ top p g n

/-- The weight of row `r` relative to `M`. -/
def wt (M : EReal) (r : ℕ) : EReal := if p r then Ideal.exp (g r - M) else 0

/-- The sum of the weights of the first `n` rows relative to `M`. -/
def mass (M : EReal) (n : ℕ) : EReal := ∑ r ∈ Finset.range n, wt p g M r

/-- The weighted sum of the features of the first `n` rows. -/
def pool (M : EReal) (n : ℕ) : EReal := ∑ r ∈ Finset.range n, wt p g M r * x r

/-! ## The exponential -/

theorem exp_nonneg (a : EReal) : 0 ≤ Ideal.exp a := by
  induction a using EReal.rec with
  | bot => exact le_rfl
  | top => exact le_top
  | coe r => exact EReal.coe_nonneg.2 (Real.exp_pos r).le

theorem exp_coe (r : ℝ) : Ideal.exp (r : EReal) = ((Real.exp r : ℝ) : EReal) := rfl

theorem exp_bot : Ideal.exp ⊥ = 0 := rfl

/-- Of a difference that is not positive the exponential is finite. -/
theorem exp_sub_ne_top {b c : EReal} (h : b ≤ c) : Ideal.exp (b - c) ≠ ⊤ := by
  induction c using EReal.rec with
  | top => rw [EReal.sub_top]; exact EReal.zero_ne_top
  | bot =>
    rw [le_bot_iff.1 h]
    rw [EReal.bot_sub]; exact EReal.zero_ne_top
  | coe c =>
    induction b using EReal.rec with
    | top => exact absurd h (not_le.2 (EReal.coe_lt_top c))
    | bot =>
      rw [EReal.bot_sub]; exact EReal.zero_ne_top
    | coe b =>
      rw [← EReal.coe_sub, exp_coe]; exact EReal.coe_ne_top _

/-- Moving the point relative to which a weight is taken from `b` up to `c`. -/
theorem exp_shift {a b c : EReal} (hab : a ≤ b) (hbc : b ≤ c) (hb : b ≠ ⊥) :
    Ideal.exp (b - c) * Ideal.exp (a - b) = Ideal.exp (a - c) := by
  induction c using EReal.rec with
  | top => rw [EReal.sub_top, EReal.sub_top, exp_bot, zero_mul]
  | bot => exact absurd (le_bot_iff.1 hbc) hb
  | coe c =>
    induction b using EReal.rec with
    | top => exact absurd hbc (not_le.2 (EReal.coe_lt_top c))
    | bot => exact absurd rfl hb
    | coe b =>
      induction a using EReal.rec with
      | top => exact absurd hab (not_le.2 (EReal.coe_lt_top b))
      | bot =>
        rw [EReal.bot_sub, EReal.bot_sub, exp_bot, mul_zero]
      | coe a =>
        rw [← EReal.coe_sub, ← EReal.coe_sub, ← EReal.coe_sub, exp_coe, exp_coe, exp_coe, ← EReal.coe_mul,
          ← Real.exp_add]
        congr 2; ring

/-- A finite factor that is not negative may be taken into a sum. -/
theorem mul_sum_of_nonneg {k : EReal} (h0 : 0 ≤ k) (ht : k ≠ ⊤) (n : ℕ) (f : ℕ → EReal) :
    k * ∑ r ∈ Finset.range n, f r = ∑ r ∈ Finset.range n, k * f r := by
  induction n with
  | zero => simp
  | succ n ih => rw [Finset.sum_range_succ, Finset.sum_range_succ, EReal.left_distrib_of_nonneg_of_ne_top h0 ht, ih]

/-! ## One chunk -/

theorem le_top_of {n r : ℕ} (hr : r < n) (hp : p r) : g r ≤ top p g n := by
  have := Finset.le_sup (f := fun r => if p r then g r else (⊥ : EReal)) (Finset.mem_range.2 hr)
  rw [if_pos hp] at this
  exact this

theorem neg_le_best (n : ℕ) : neg ≤ best p g neg n := le_sup_left

theorem le_best {n r : ℕ} (hr : r < n) (hp : p r) : g r ≤ best p g neg n :=
  (le_top_of p g hr hp).trans le_sup_right

theorem best_zero : best p g neg 0 = neg := by simp [best, top]

/-- The running maximum over one more chunk of `k` rows, rows of other graphs counted as `neg`. -/
theorem best_add (n k : ℕ) :
    best p g neg (n + k) = best p g neg n ⊔ (Finset.range k).sup fun j => if p (n + j) then g (n + j) else neg := by
  apply le_antisymm
  · refine sup_le (le_sup_of_le_left (neg_le_best ..)) (Finset.sup_le fun r hr => ?_)
    have hr := Finset.mem_range.1 hr
    by_cases hp : p r
    · rw [if_pos hp]
      by_cases hn : r < n
      · exact le_sup_of_le_left (le_best p g neg hn hp)
      · refine le_sup_of_le_right ?_
        have h := Finset.le_sup (f := fun j => if p (n + j) then g (n + j) else neg)
          (Finset.mem_range.2 (show r - n < k by omega))
        have e : n + (r - n) = r := by omega
        simpa only [e, if_pos hp] using h
    · rw [if_neg hp]; exact bot_le
  · refine sup_le (sup_le le_sup_left (le_sup_of_le_right ?_)) (Finset.sup_le fun j hj => ?_)
    · exact Finset.sup_mono (Finset.range_mono (Nat.le_add_right n k))
    · have hj := Finset.mem_range.1 hj
      by_cases hp : p (n + j)
      · rw [if_pos hp]; exact le_best p g neg (by omega) hp
      · rw [if_neg hp]; exact neg_le_best ..

theorem best_mono (n k : ℕ) : best p g neg n ≤ best p g neg (n + k) := by
  rw [best_add]; exact le_sup_left

theorem wt_shift {b c : EReal} {r : ℕ} (hg : p r → g r ≤ b) (hbc : b ≤ c) (hb : b ≠ ⊥) :
    Ideal.exp (b - c) * wt p g b r = wt p g c r := by
  unfold wt
  by_cases hp : p r
  · rw [if_pos hp, if_pos hp, exp_shift (hg hp) hbc hb]
  · rw [if_neg hp, if_neg hp, mul_zero]

/-- The sum of the weights after one more chunk. -/
theorem mass_add (hneg : neg ≠ ⊥) (n k : ℕ) :
    mass p g (best p g neg (n + k)) (n + k)
      = Ideal.exp (best p g neg n - best p g neg (n + k)) * mass p g (best p g neg n) n
        + ∑ j ∈ Finset.range k, wt p g (best p g neg (n + k)) (n + j) := by
  have hb : best p g neg n ≠ ⊥ := fun h => hneg (le_bot_iff.1 ((neg_le_best p g neg n).trans h.le))
  unfold mass
  rw [Finset.sum_range_add, mul_sum_of_nonneg (exp_nonneg _) (exp_sub_ne_top (best_mono ..))]
  refine congrArg (· + _) (Finset.sum_congr rfl fun r hr => ?_)
  exact (wt_shift p g (fun hp => le_best p g neg (Finset.mem_range.1 hr) hp) (best_mono ..) hb).symm

/-- The weighted sum after one more chunk. -/
theorem pool_add (hneg : neg ≠ ⊥) (n k : ℕ) :
    pool p g x (best p g neg (n + k)) (n + k)
      = Ideal.exp (best p g neg n - best p g neg (n + k)) * pool p g x (best p g neg n) n
        + ∑ j ∈ Finset.range k, wt p g (best p g neg (n + k)) (n + j) * x (n + j) := by
  have hb : best p g neg n ≠ ⊥ := fun h => hneg (le_bot_iff.1 ((neg_le_best p g neg n).trans h.le))
  unfold pool
  rw [Finset.sum_range_add, mul_sum_of_nonneg (exp_nonneg _) (exp_sub_ne_top (best_mono ..))]
  refine congrArg (· + _) (Finset.sum_congr rfl fun r hr => ?_)
  rw [← mul_assoc, wt_shift p g (fun hp => le_best p g neg (Finset.mem_range.1 hr) hp) (best_mono ..) hb]

theorem mass_zero (M : EReal) : mass p g M 0 = 0 := by simp [mass]
theorem pool_zero (M : EReal) : pool p g x M 0 = 0 := by simp [pool]

/-! ## The whole -/

theorem div_coe {a b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

theorem coe_sum (n : ℕ) (f : ℕ → ℝ) :
    ((∑ r ∈ Finset.range n, f r : ℝ) : EReal) = ∑ r ∈ Finset.range n, (f r : EReal) := by
  induction n with
  | zero => simp
  | succ n ih => rw [Finset.sum_range_succ, Finset.sum_range_succ, EReal.coe_add, ih]

/-- Over finite logits the weights relative to a finite number are finite. -/
theorem wt_coe {γ : ℕ → ℝ} {ν : ℝ} {r : ℕ} (hg : p r → g r = γ r) :
    wt p g (ν : EReal) r = ((if p r then Real.exp (γ r - ν) else 0 : ℝ) : EReal) := by
  unfold wt
  by_cases hp : p r
  · rw [if_pos hp, if_pos hp, hg hp, ← EReal.coe_sub, exp_coe]
  · rw [if_neg hp, if_neg hp, EReal.coe_zero]

/-- With no row of the graph every sum of weights is zero. -/
theorem mass_of_none {n : ℕ} (h : ∀ r < n, ¬p r) (M : EReal) : mass p g M n = 0 :=
  Finset.sum_eq_zero fun r hr => if_neg (h r (Finset.mem_range.1 hr))

/-- THE EQUATION: what the sweep ends with, the weighted sum divided by the sum of the weights, is the
    sum of the features times their normalised weights relative to the graph's greatest logit. -/
theorem sweep_eq (N : ℕ) (γ ξ : ℕ → ℝ) (ν₀ : ℝ) (hneg : neg = ν₀)
    (hg : ∀ r < N, p r → g r = γ r) (hx : ∀ r < N, x r = ξ r) :
    (if 0 < mass p g (best p g neg N) N
      then Ideal.div (pool p g x (best p g neg N) N) (mass p g (best p g neg N) N) else 0)
      = ∑ r ∈ Finset.range N,
          if p r then x r * Ideal.div (Ideal.exp (g r - top p g N)) (mass p g (top p g N) N) else 0 := by
  by_cases hne : ∃ r < N, p r
  · -- the graph has a row: all numbers are finite
    obtain ⟨r₀, hr₀, hp₀⟩ := hne
    have htb : top p g N ≠ ⊥ := fun h => by
      have := le_top_of p g hr₀ hp₀
      rw [h, le_bot_iff, hg r₀ hr₀ hp₀] at this
      exact EReal.coe_ne_bot _ this
    have htt : top p g N ≠ ⊤ := by
      refine ((Finset.sup_lt_iff (bot_lt_top (α := EReal))).2 fun r hr => ?_).ne
      by_cases hp : p r
      · rw [if_pos hp, hg r (Finset.mem_range.1 hr) hp]; exact EReal.coe_lt_top _
      · rw [if_neg hp]; exact bot_lt_top
    obtain ⟨μ, hμ⟩ : ∃ μ : ℝ, top p g N = μ := ⟨_, (EReal.coe_toReal htt htb).symm⟩
    obtain ⟨ν, hν⟩ : ∃ ν : ℝ, best p g neg N = ν := by
      refine ⟨max ν₀ μ, ?_⟩
      unfold best
      rw [hμ, hneg]
      exact (EReal.coe_strictMono.monotone.map_max (a := ν₀) (b := μ)).symm
    rw [hν, hμ]
    let e : ℝ → ℕ → ℝ := fun t r => if p r then Real.exp (γ r - t) else 0
    have hmass : ∀ t : ℝ, mass p g (t : EReal) N = ((∑ r ∈ Finset.range N, e t r : ℝ) : EReal) := fun t => by
      rw [coe_sum]
      exact Finset.sum_congr rfl fun r hr => wt_coe p g (hg r (Finset.mem_range.1 hr))
    have hpool : ∀ t : ℝ, pool p g x (t : EReal) N = ((∑ r ∈ Finset.range N, e t r * ξ r : ℝ) : EReal) := fun t => by
      rw [coe_sum]
      refine Finset.sum_congr rfl fun r hr => ?_
      rw [wt_coe p g (hg r (Finset.mem_range.1 hr)), hx r (Finset.mem_range.1 hr), EReal.coe_mul]
    have hnn : ∀ (t : ℝ) (r : ℕ), 0 ≤ e t r := fun t r => by
      by_cases hp : p r
      · simp only [e, if_pos hp]; exact (Real.exp_pos _).le
      · simp only [e, if_neg hp]; exact le_rfl
    have hpos : ∀ t : ℝ, 0 < ∑ r ∈ Finset.range N, e t r := fun t =>
      Finset.sum_pos' (fun r _ => hnn t r) ⟨r₀, Finset.mem_range.2 hr₀, by
        simp only [e, if_pos hp₀]; exact Real.exp_pos _⟩
    rw [hmass, hpool, if_pos (by exact_mod_cast hpos ν), div_coe (hpos ν).ne']
    -- the two points differ by a common factor
    have hsh : ∀ r, e ν r = Real.exp (μ - ν) * e μ r := fun r => by
      by_cases hp : p r
      · simp only [e, if_pos hp]; rw [← Real.exp_add]; congr 1; ring
      · simp only [e, if_neg hp]; ring
    have hR : ∀ r ∈ Finset.range N,
        (if p r then x r * Ideal.div (Ideal.exp (g r - (μ : EReal))) (mass p g (μ : EReal) N) else 0)
          = ((ξ r * (e μ r / ∑ r ∈ Finset.range N, e μ r) : ℝ) : EReal) := fun r hr => by
      have hr := Finset.mem_range.1 hr
      by_cases hp : p r
      · rw [if_pos hp, hmass, hg r hr hp, ← EReal.coe_sub, exp_coe, div_coe (hpos μ).ne', hx r hr, ← EReal.coe_mul]
        simp only [e, if_pos hp]
      · rw [if_neg hp]
        simp only [e, if_neg hp, zero_div, mul_zero, EReal.coe_zero]
    rw [Finset.sum_congr rfl hR, ← coe_sum]
    refine congrArg _ ?_
    rw [Finset.sum_congr rfl (fun r _ => hsh r), Finset.sum_congr rfl (fun r _ => by rw [hsh r, mul_assoc]),
      ← Finset.mul_sum, ← Finset.mul_sum, mul_div_mul_left _ _ (Real.exp_pos _).ne', Finset.sum_div]
    exact Finset.sum_congr rfl fun r _ => by ring
  · -- the graph has no row: both are zero
    have hno : ∀ r < N, ¬p r := fun r hr hp => hne ⟨r, hr, hp⟩
    rw [mass_of_none p g hno, if_neg (lt_irrefl _)]
    exact (Finset.sum_eq_zero fun r hr => if_neg (hno r (Finset.mem_range.1 hr))).symm

end Cert.Pool

end
-- ==== Proof.Logit.lean ====
/- The logit of one row: what both programs compute from the row, the query of the row's graph and the two
   halves of the weights. -/
module

public import Idealize.ShloMosaic.Lib.Pointwise

@[expose] public section

noncomputable section

namespace Cert.Pool

open Idealize.ShloMosaic

/-- The slope on negative numbers: the float nearest to 0.01. -/
def slope : EReal := Ideal.ofBits .f32 0x3C23D70A#32

/-- The leaky rectifier. -/
def leaky (a : EReal) : EReal := if 0 ≤ a then a else slope * a

/-- The logit of a row `h` of a graph with query `q`. -/
def logit (h q u v : Fin 128 → EReal) : EReal := leaky (∑ k, h k * u k + ∑ k, q k * v k)

/-- The number that stands below every logit in the running maximum. -/
def low : EReal := Ideal.ofBits .f32 0xFF61B1E6#32

/-- Small numbers are told apart as 32-bit words. -/
theorem ofNat_inj {a b : ℕ} (ha : a < 2 ^ 32) (hb : b < 2 ^ 32) (h : BitVec.ofNat 32 a = BitVec.ofNat 32 b) : a = b := by
  have := congrArg BitVec.toNat h
  rwa [BitVec.toNat_ofNat, BitVec.toNat_ofNat, Nat.mod_eq_of_lt ha, Nat.mod_eq_of_lt hb] at this

/-- A maximum over a chunk is the supremum over its rows. -/
theorem fold_max (n : ℕ) (f : ℕ → EReal) :
    Finset.fold max ⊥ (fun j : Fin n => f j) Finset.univ = (Finset.range n).sup f := by
  show Finset.univ.sup (fun j : Fin n => f j) = _
  apply le_antisymm
  · exact Finset.sup_le fun j _ => Finset.le_sup (f := f) (Finset.mem_range.2 j.isLt)
  · exact Finset.sup_le fun j hj =>
      Finset.le_sup (f := fun j : Fin n => f j) (Finset.mem_univ (⟨j, Finset.mem_range.1 hj⟩ : Fin n))

/-- The word of negative infinity. -/
theorem ofBits_neg_inf : Ideal.ofBits .f32 0xFF800000#32 = ⊥ := by
  show Ideal.ieee 8 23 0xFF800000#32 = ⊥
  unfold Ideal.ieee
  dsimp only
  rw [if_pos (by decide), if_pos (by decide), if_pos (by decide)]

/-- `low` is a real number. -/
theorem low_coe : ∃ r : ℝ, low = r := by
  show ∃ r : ℝ, Ideal.ieee 8 23 0xFF61B1E6#32 = r
  unfold Ideal.ieee
  dsimp only
  rw [if_neg (by decide), if_neg (by decide)]
  exact ⟨_, rfl⟩

/-- The slope is a real number. -/
theorem slope_coe : ∃ r : ℝ, slope = r := by
  show ∃ r : ℝ, Ideal.ieee 8 23 0x3C23D70A#32 = r
  unfold Ideal.ieee
  dsimp only
  rw [if_neg (by decide), if_neg (by decide)]
  exact ⟨_, rfl⟩

theorem low_ne_bot : low ≠ ⊥ := by
  obtain ⟨r, h⟩ := low_coe
  rw [h]
  exact EReal.coe_ne_bot r

/-- The inner product of real vectors is real. -/
theorem dot_coe {a b : Fin 128 → EReal} (ha : ∀ k, ∃ r : ℝ, a k = r) (hb : ∀ k, ∃ r : ℝ, b k = r) :
    ∃ r : ℝ, ∑ k, a k * b k = r := by
  refine Finset.sum_induction _ (fun x : EReal => ∃ r : ℝ, x = r) ?_ ⟨0, rfl⟩ fun k _ => ?_
  · rintro _ _ ⟨r, rfl⟩ ⟨t, rfl⟩
    exact ⟨r + t, (EReal.coe_add r t).symm⟩
  · obtain ⟨r, hr⟩ := ha k
    obtain ⟨t, ht⟩ := hb k
    exact ⟨r * t, by rw [hr, ht, EReal.coe_mul]⟩

/-- Real inputs have a real logit. -/
theorem logit_coe {h q u v : Fin 128 → EReal} (hh : ∀ k, ∃ r : ℝ, h k = r) (hq : ∀ k, ∃ r : ℝ, q k = r)
    (hu : ∀ k, ∃ r : ℝ, u k = r) (hv : ∀ k, ∃ r : ℝ, v k = r) : ∃ r : ℝ, logit h q u v = r := by
  obtain ⟨a, ha⟩ := dot_coe hh hu
  obtain ⟨b, hb⟩ := dot_coe hq hv
  obtain ⟨e, he⟩ := slope_coe
  unfold logit leaky
  rw [ha, hb, he]
  by_cases h0 : (0 : EReal) ≤ (a : EReal) + b
  · exact ⟨a + b, by rw [if_pos h0, EReal.coe_add]⟩
  · exact ⟨e * (a + b), by rw [if_neg h0, EReal.coe_mul, EReal.coe_add]⟩

end Cert.Pool
-- ==== Proof.Point.lean ====
/- One grid point of the kernel, read for one graph: the chunk's rows join the graph's running maximum, sum of
   weights and weighted sum. -/
module

public import proofs.«01_k».proof.Proof.Step
public import proofs.«01_k».proof.Proof.Softmax
public import proofs.«01_k».proof.Proof.Logit
public import Idealize.ShloMosaic.Lib.Pointwise

@[expose] public section

noncomputable section

namespace Cert.KernelIdeal.Step

open Cert.KernelIdeal Cert.KernelIdeal.Gen Idealize.ShloMosaic Idealize.ShloMosaic.TcCoe Idealize.SL.Sem
open Idealize.ShloMosaic.Pointwise Cert.Pool

section Entries

variable (x : Vec Ideal S20000x128 .f32) (s : Vec Ideal S1x1x20000 .i32) (w : Vec Ideal S128x2 .f32)
  (q : Vec Ideal S64x128 .f32) (y : Vec Ideal S1x64 .f32)

/-- The mask: whether row `n` belongs to graph `j`. -/
theorem mask_apply (n : Fin 20000) (j : Fin 64) :
    k0_pay9 (F := Ideal) s (ix2 n j) = if s (ix3 0 0 n) = BitVec.ofNat 32 j.val then 1#1 else 0#1 := by
  pointwise [k0_pay9]
  by_cases h : s (ix3 0 0 n) = BitVec.ofNat 32 j.val
  · rw [if_pos h, h]; simp [IntOp.cmpi]
  · rw [if_neg h]; show BitVec.ofBool (_ == _) = 0#1; rw [beq_eq_false_iff_ne.2 h]; rfl

/-- The mask as numbers. -/
theorem onehot_apply (n : Fin 20000) (j : Fin 64) :
    k0_pay10 (F := Ideal) s (ix2 n j) = if s (ix3 0 0 n) = BitVec.ofNat 32 j.val then (1 : EReal) else 0 := by
  pointwise [k0_pay10]
  rw [mask_apply]
  by_cases h : s (ix3 0 0 n) = BitVec.ofNat 32 j.val
  · rw [if_pos h, if_pos h]; show (((BitVec.setWidth 32 1#1).toInt : ℝ) : EReal) = 1; norm_num
  · rw [if_neg h, if_neg h]; show (((BitVec.setWidth 32 0#1).toInt : ℝ) : EReal) = 0; norm_num

/-- Summed against the mask, a table gives the entry of the row's graph. -/
theorem onehot_sum (f : Fin 64 → EReal) (n : Fin 20000) (j : Fin 64) (h : s (ix3 0 0 n) = BitVec.ofNat 32 j.val) :
    ∑ i, k0_pay10 (F := Ideal) s (ix2 n i) * f i = f j := by
  rw [Finset.sum_eq_single j]
  · rw [onehot_apply, if_pos h, one_mul]
  · intro i _ hi
    rw [onehot_apply, if_neg, zero_mul]
    intro h'
    exact hi (Fin.ext (ofNat_inj (by omega) (by omega) (h'.symm.trans h)))
  · exact fun h => absurd (Finset.mem_univ j) h

/-- The logit of a row of graph `j`. -/
theorem score_apply (n : Fin 20000) (j : Fin 64) (h : s (ix3 0 0 n) = BitVec.ofNat 32 j.val) :
    k0_pay11 (F := Ideal) x s w q (ix1 n)
      = logit (fun k => x (ix2 n k)) (fun k => q (ix2 j k)) (fun k => w (ix2 k 0)) (fun k => w (ix2 k 1)) := by
  pointwise [k0_pay11]
  rw [onehot_sum s (fun i => ∑ k, q (ix2 i k) * w (ix2 k 1)) n j h]
  rfl

end Entries

/-- The rows of the blocks `b` are rows `k`, `k + 1`, … of a table with membership `p` in graph `j`, logits `g`
    and features `f`. -/
structure Reads (b : Blocks Ideal) (j : Fin 64) (k : ℕ) (p : ℕ → Prop) (g : ℕ → EReal) (f : Fin 128 → ℕ → EReal) : Prop where
  mem : ∀ n : Fin 20000, b.seg (ix3 0 0 n) = BitVec.ofNat 32 j.val ↔ p (k + n)
  logit : ∀ n : Fin 20000, p (k + n) →
    logit (fun i => b.rows (ix2 n i)) (fun i => b.qs (ix2 j i)) (fun i => b.wts (ix2 i 0)) (fun i => b.wts (ix2 i 1)) = g (k + n)
  row : ∀ (n : Fin 20000) (d : Fin 128), b.rows (ix2 n d) = f d (k + n)

/-- The scratch buffers hold, for graph `j`, the values after the first `k` rows. -/
structure Holds (y : Carry Ideal) (j : Fin 64) (k : ℕ) (p : ℕ → Prop) [DecidablePred p] (g : ℕ → EReal) (f : Fin 128 → ℕ → EReal) : Prop where
  m : y.m (ix2 0 j) = best p g low k
  s : y.s (ix2 0 j) = mass p g (best p g low k) k
  acc : ∀ d : Fin 128, y.acc (ix2 j d) = pool p g (f d) (best p g low k) k

variable {j : Fin 64} {p : ℕ → Prop} [DecidablePred p] {g : ℕ → EReal} {f : Fin 128 → ℕ → EReal}

/-- At the start no row has joined. -/
theorem holds_start : Holds start j 0 p g f where
  m := by
    rw [best_zero]
    show k0_pay6 (F := Ideal) (ix2 0 j) = _
    pointwise [k0_pay6]
    rfl
  s := by
    rw [mass_zero]
    show k0_pay7 (F := Ideal) (ix2 0 j) = _
    pointwise [k0_pay7]
  acc d := by
    rw [pool_zero]
    show k0_pay8 (F := Ideal) (ix2 j d) = _
    pointwise [k0_pay8]

section Step

variable {b : Blocks Ideal} {y : Carry Ideal} {k : ℕ}

/-- The running maximum after the point. -/
theorem step_max (hb : Reads b j k p g f) (hy : Holds y j k p g f) :
    k0_pay13 (F := Ideal) b.rows b.seg b.wts b.qs y.m (ix1 j) = best p g low (k + 20000) := by
  rw [best_add, ← hy.m, ← fold_max 20000 (fun i => if p (k + i) then g (k + i) else low), ← ofBits_neg_inf]
  pointwise [k0_pay13, k0_pay12]
  refine congrArg _ (congrArg (fun F => Finset.fold max _ F Finset.univ) (funext fun n => ?_))
  rw [mask_apply]
  by_cases h : b.seg (ix3 0 0 n) = BitVec.ofNat 32 j.val
  · rw [if_pos h, if_pos ((hb.mem n).1 h), ← hb.logit n ((hb.mem n).1 h), ← score_apply _ _ _ _ n j h]
    rfl
  · rw [if_neg h, if_neg (fun hp => h ((hb.mem n).2 hp))]
    rfl

/-- The weight of row `n` for graph `j`. -/
theorem step_weight (hb : Reads b j k p g f) (hy : Holds y j k p g f) (n : Fin 20000) :
    k0_pay1 (F := Ideal) (k0_pay9 b.seg) (k0_pay10 b.seg) (k0_pay11 b.rows b.seg b.wts b.qs)
        (k0_pay15 b.rows b.seg b.wts b.qs y.m) (ix2 n j)
      = wt p g (best p g low (k + 20000)) (k + n) := by
  pointwise [k0_pay1]
  rw [mask_apply]
  unfold wt
  by_cases h : b.seg (ix3 0 0 n) = BitVec.ofNat 32 j.val
  · rw [if_pos h, if_pos ((hb.mem n).1 h), score_apply _ _ _ _ n j h, hb.logit n ((hb.mem n).1 h),
      onehot_sum b.seg (fun i => k0_pay15 b.rows b.seg b.wts b.qs y.m (ix2 i 0)) n j h]
    have e : k0_pay15 (F := Ideal) b.rows b.seg b.wts b.qs y.m (ix2 j 0) = best p g low (k + 20000) := by
      rw [← step_max hb hy]
      pointwise [k0_pay15]
    rw [e]
    rfl
  · rw [if_neg h, if_neg (fun hp => h ((hb.mem n).2 hp))]
    rfl

/-- The factor by which the point rescales what was gathered before. -/
theorem step_scale (hb : Reads b j k p g f) (hy : Holds y j k p g f) :
    k0_pay14 (F := Ideal) b.rows b.seg b.wts b.qs y.m (ix1 j)
      = Ideal.exp (best p g low k - best p g low (k + 20000)) := by
  rw [← step_max hb hy, ← hy.m]
  pointwise [k0_pay14, k0_pay12]

/-- A point takes the values after `k` rows to those after `k + 20000`. -/
theorem holds_step (hlow : low ≠ ⊥) (hb : Reads b j k p g f) (hy : Holds y j k p g f) :
    Holds (step b y) j (k + 20000) p g f where
  m := by
    rw [← step_max hb hy]
    show k0_pay2 (F := Ideal) (k0_pay13 b.rows b.seg b.wts b.qs y.m) (ix2 0 j) = _
    pointwise [k0_pay2]
  s := by
    rw [mass_add p g low hlow, ← step_scale hb hy, ← hy.s, Finset.sum_range]
    show k0_pay3 (F := Ideal) _ _ _ _ _ _ (ix2 0 j) = _
    pointwise [k0_pay3]
    exact congrArg _ (Finset.sum_congr rfl fun n _ => step_weight hb hy n)
  acc d := by
    rw [pool_add p g (f d) low hlow, ← step_scale hb hy, ← hy.acc, Finset.sum_range]
    show k0_pay4 (F := Ideal) _ _ _ _ _ _ _ (ix2 j d) = _
    pointwise [k0_pay4]
    exact congrArg _ (Finset.sum_congr rfl fun n _ => by rw [step_weight hb hy n, hb.row n d])

end Step

/-- The result's entry from the values after all rows. -/
theorem out_apply (s : Vec Ideal S1x64 .f32) (a : Vec Ideal S64x128 .f32) (d : Fin 128) :
    k0_pay5 (F := Ideal) s a (ix2 j d)
      = if 0 < s (ix2 0 j) then Ideal.div (a (ix2 j d)) (s (ix2 0 j)) else 0 := by
  pointwise [k0_pay5]

end Cert.KernelIdeal.Step
-- ==== Proof.Tables.lean ====
/- The inputs as tables, and the attention pooling of one graph stated over them. -/
module

public import proofs.«01_k».proof.Proof.Softmax
public import proofs.«01_k».proof.Proof.Logit

@[expose] public section

noncomputable section

namespace Cert.Pool

open Idealize.ShloMosaic

/-- The four inputs: rows, their graph numbers, one query per graph, the weights. -/
structure Tables where
  h : Fin 100000 → Fin 128 → EReal
  seg : Fin 100000 → BitVec 32
  q : Fin 64 → Fin 128 → EReal
  w : Fin 256 → EReal

/-- Row `r` of the table. -/
def row (r : ℕ) : Fin 100000 := ⟨r % 100000, Nat.mod_lt _ (by decide)⟩

theorem row_val (n : Fin 100000) : row n.val = n := Fin.ext (Nat.mod_eq_of_lt n.isLt)

/-- The weights of the row and of the query. -/
def lo (k : Fin 128) : Fin 256 := ⟨k.val, by omega⟩
def hi (k : Fin 128) : Fin 256 := ⟨128 + k.val, by omega⟩

namespace Tables

variable (T : Tables) (j : Fin 64)

/-- Row `r` belongs to graph `j`. -/
def mem (r : ℕ) : Prop := T.seg (row r) = BitVec.ofNat 32 j.val

instance : DecidablePred (T.mem j) := fun r => inferInstanceAs (Decidable (T.seg (row r) = BitVec.ofNat 32 j.val))

/-- The logit of row `r` as a row of graph `j`. -/
def score (r : ℕ) : EReal := logit (T.h (row r)) (T.q j) (fun k => T.w (lo k)) (fun k => T.w (hi k))

/-- Feature `d` of row `r`. -/
def feat (d : Fin 128) (r : ℕ) : EReal := T.h (row r) d

/-- The pooled feature `d` of graph `j`: the rows' features times their shares of the graph's weight. -/
def value (d : Fin 128) : EReal :=
  ∑ r ∈ Finset.range 100000, if T.mem j r then
    T.feat d r * Ideal.div (Ideal.exp (T.score j r - top (T.mem j) (T.score j) 100000))
      (mass (T.mem j) (T.score j) (top (T.mem j) (T.score j) 100000) 100000) else 0

/-- All float inputs are real numbers. -/
structure Real : Prop where
  h : ∀ n k, ∃ r : ℝ, T.h n k = r
  q : ∀ i k, ∃ r : ℝ, T.q i k = r
  w : ∀ k, ∃ r : ℝ, T.w k = r

variable {T}

/-- On real inputs the running form ends at the pooled feature. -/
theorem Real.sweep (hT : T.Real) (d : Fin 128) :
    (if 0 < mass (T.mem j) (T.score j) (best (T.mem j) (T.score j) low 100000) 100000 then
      Ideal.div (pool (T.mem j) (T.score j) (T.feat d) (best (T.mem j) (T.score j) low 100000) 100000)
        (mass (T.mem j) (T.score j) (best (T.mem j) (T.score j) low 100000) 100000) else 0) = T.value j d := by
  have hs : ∀ r, ∃ γ : ℝ, T.score j r = γ := fun r =>
    logit_coe (hT.h _) (hT.q j) (fun k => hT.w _) (fun k => hT.w _)
  have hf : ∀ r, ∃ ξ : ℝ, T.feat d r = ξ := fun r => hT.h _ d
  choose γ hγ using hs
  choose ξ hξ using hf
  obtain ⟨ν, hν⟩ := low_coe
  exact sweep_eq (T.mem j) (T.score j) (T.feat d) low 100000 γ ξ ν hν (fun r _ _ => hγ r) (fun r _ => hξ r)

end Tables

end Cert.Pool
-- ==== Proof.Pooled.lean ====
/- The kernel's result at an entry: the running form over all rows of the tables. -/
module

public import proofs.«01_k».proof.Proof.Fold
public import proofs.«01_k».proof.Proof.Point
public import proofs.«01_k».proof.Proof.Tables
public import Idealize.ShloMosaic.Lib.Claim

@[expose] public section

noncomputable section

namespace Cert.KernelIdeal.Step

open Cert.KernelIdeal Cert.KernelIdeal.Gen Idealize.ShloMosaic Idealize.ShloMosaic.TcCoe Idealize.SL.Sem
open Idealize.ShloMosaic.Pointwise Cert.Pool

variable (m : (ℓ : Loc nD τ sig) → Buf (Elt Ideal) ℓ) (c : Dev nD)

/-- The program's inputs as tables. -/
def tables : Tables where
  h n k := (m ((c : Thread nD τ).loc main_arg0) : Vec Ideal S100000x128 .f32) (ix2 n k)
  seg n := (m ((c : Thread nD τ).loc main_arg1) : Vec Ideal S100000 .i32) (ix1 n)
  q i k := (m ((c : Thread nD τ).loc main_arg2) : Vec Ideal S64x128 .f32) (ix2 i k)
  w k := (m ((c : Thread nD τ).loc main_arg3) : Vec Ideal S256x1 .f32) (ix2 k 0)

/-- Which block each window reads at each point. -/
theorem idx : ∀ t : Fin cfg0.N, (win0_0.index t = ![t.val, 0, 0] ∧ win0_1.index t = ![t.val, 0])
    ∧ win0_2.index t = ![0, 0] ∧ win0_3.index t = ![0, 0] := by decide

/-- A row of point `t`'s block. -/
theorem rows_apply (t : Fin cfg0.N) (n : Fin 20000) (k : Fin 128) :
    (blocks m c t).rows (ix2 n k) = (tables m c).h (row (20000 * t.val + n)) k := by
  have ht : t.val < 5 := lt_of_lt_of_eq t.isLt N_0
  unfold blocks tables row
  dsimp only
  blk_ext [iblk, V, (idx t).1.2]

/-- A query. -/
theorem queries_apply (t : Fin cfg0.N) (i : Fin 64) (k : Fin 128) :
    (blocks m c t).qs (ix2 i k) = (tables m c).q i k := by
  unfold blocks tables
  dsimp only
  blk_ext [iblk, V, (idx t).2.2]

/-- The graph number of a row of point `t`'s block. -/
theorem seg_apply (t : Fin cfg0.N) (n : Fin 20000) :
    (blocks m c t).seg (ix3 0 0 n) = (tables m c).seg (row (20000 * t.val + n)) := by
  have ht : t.val < 5 := lt_of_lt_of_eq t.isLt N_0
  unfold blocks tables row
  dsimp only
  have e : (win0_0.blk t).view.emb (ix3 0 0 n) = (ix3 ⟨t.val, ht⟩ 0 n : S5x1x20000.Idx) := by
    blk_ext [(idx t).1.1]
  blk_simp [iblk, (idx t).1.1]
  rw [e]
  entry_read
  pointwise
  blk_ext [V]

/-- The weights of the row. -/
theorem weights_lo (t : Fin cfg0.N) (k : Fin 128) :
    (blocks m c t).wts (ix2 k 0) = (tables m c).w (lo k) := by
  unfold blocks tables lo
  dsimp only
  have e : (win0_2.blk t).view.emb (ix2 k 0) = (ix2 k 0 : S128x2.Idx) := by
    blk_ext [(idx t).2.1]
  blk_simp [iblk, (idx t).2.1]
  rw [e]
  entry_read
  pointwise

/-- The weights of the query. -/
theorem weights_hi (t : Fin cfg0.N) (k : Fin 128) :
    (blocks m c t).wts (ix2 k 1) = (tables m c).w (hi k) := by
  unfold blocks tables hi
  dsimp only
  have e : (win0_2.blk t).view.emb (ix2 k 1) = (ix2 k 1 : S128x2.Idx) := by
    blk_ext [(idx t).2.1]
  blk_simp [iblk, (idx t).2.1]
  rw [e]
  entry_read
  pointwise

/-- The blocks of point `n` are its 20000 rows of the tables. -/
theorem reads (n : ℕ) (h : n < cfg0.N) (j : Fin 64) :
    Reads (blocks m c ⟨n, h⟩) j (20000 * n) ((tables m c).mem j) ((tables m c).score j) (tables m c).feat where
  mem i := by rw [seg_apply]; rfl
  logit i _ := by
    simp only [rows_apply, queries_apply, weights_lo, weights_hi]
    rfl
  row i d := rows_apply m c ⟨n, h⟩ i d

/-- After point `n` the scratch buffers hold the values after its rows. -/
theorem holds_carry (j : Fin 64) : ∀ (n : ℕ) (h : n < cfg0.N),
    Holds (carry m c n h) j (20000 * (n + 1)) ((tables m c).mem j) ((tables m c).score j) (tables m c).feat
  | 0, h => holds_step low_ne_bot (reads m c 0 h j) holds_start
  | n + 1, h => holds_step low_ne_bot (reads m c (n + 1) h j) (holds_carry j n (Nat.lt_of_succ_lt h))

/-- On real inputs the kernel's result is the pooled feature. -/
theorem result_apply (hT : (tables m c).Real) (j : Fin 64) (d : Fin 128) :
    (Value.G4 m c : Vec Ideal S64x128 .f32) (ix2 j d) = (tables m c).value j d := by
  have h : 4 < cfg0.N := lt_of_lt_of_eq (by decide) N_0.symm
  have e := holds_carry m c j 4 h
  rw [result_eq m c h, out_apply, e.s, e.acc d]
  exact hT.sweep j d

end Cert.KernelIdeal.Step
-- ==== Proof.Finite.lean ====
/- The precondition read: every entry of the three float inputs is a real number. -/
module

public import proofs.«01_k».proof.Defs
public import proofs.«01_k».proof.Proof.Pooled
public import Idealize.ShloMosaic.Lib.Pointwise

@[expose] public section

noncomputable section

namespace Cert.Finite

open Idealize.ShloMosaic Idealize.ShloMosaic.TcCoe Idealize.SL.Sem Idealize.ShloMosaic.Pointwise Cert.Pool

/-- The side conditions of the predicate. -/
theorem facts : Cert.Pre_finite_inputs.Facts where
  bcast_S_S100000x128 := by decide
  bcast_S_S64x128 := by decide
  bcast_S_S256x1 := by decide

/-- The word of infinity. -/
theorem ofBits_inf : Ideal.ofBits .f32 0x7F800000#32 = ⊤ := by
  show Ideal.ieee 8 23 0x7F800000#32 = ⊤
  unfold Ideal.ieee
  dsimp only
  rw [if_pos (by decide), if_pos (by decide), if_neg (by decide)]

/-- A number whose absolute value lies below infinity is real. -/
theorem coe_of_abs_lt {x : Ideal .f32}
    (h : BitVec.ofBool (decide ((FloatOps.absf x : EReal) < Ideal.ofBits .f32 0x7F800000#32)) = 1#1) : ∃ r : ℝ, x = (r : EReal) := by
  rw [ofBits_inf] at h
  have h' : max (x : EReal) (-x) < ⊤ := by
    by_contra hn
    have : ¬(FloatOps.absf x : EReal) < ⊤ := hn
    rw [decide_eq_false this] at h
    exact absurd h (by decide)
  clear h
  change EReal at x
  induction x using EReal.rec with
  | bot => simp at h'
  | top => simp at h'
  | coe r => exact ⟨r, rfl⟩

variable (m : (ℓ : Loc KernelIdeal.nD KernelIdeal.τ KernelIdeal.sig) → Buf (Elt Ideal) ℓ) (c : Dev KernelIdeal.nD)

/-- Under the precondition the tables are real. -/
theorem real (hm : Cert.Pre_KernelIdeal_finite_inputs (hPre_finite_inputs := facts) m) : (KernelIdeal.Step.tables m c).Real := by
  haveI := facts
  obtain ⟨h0, h2, h3⟩ := hm c
  constructor
  · intro n k
    have e := congrFun h0 (ix2 n k)
    revert e
    pointwise [Pre_finite_inputs.fn]
    exact coe_of_abs_lt
  · intro i k
    have e := congrFun h2 (ix2 i k)
    revert e
    pointwise [Pre_finite_inputs.fn]
    exact coe_of_abs_lt
  · intro k
    have e := congrFun h3 (ix2 k 0)
    revert e
    pointwise [Pre_finite_inputs.fn]
    exact coe_of_abs_lt

end Cert.Finite

end
-- ==== Proof.Stages.lean ====
/- The reference's result as a chain of named stages. -/
module

public import proofs.«01_k».proof.Proof.Gen.ReferenceIdeal.Run

@[expose] public section

noncomputable section

namespace Cert.ReferenceIdeal.Stages

open Cert.ReferenceIdeal Cert.ReferenceIdeal.Gen Idealize.ShloMosaic Idealize.ShloMosaic.TcCoe Idealize.SL.Sem

variable {F : FTy → Type} [FloatOps F]
  (h : FVec F S100000x128 .f32) (s : IVec S100000 32) (q : FVec F S64x128 .f32) (w : FVec F S256x1 .f32)

/-- The graph numbers as a column. -/
def col : IVec S100000x1 32 := broadcastInDim S100000x1 ![0] bcast_S100000_S100000x1_0 s

/-- The graph numbers as a column of row numbers of a table with 64 rows, negative ones counted from its end. -/
def ids : IVec S100000x1 32 :=
  col (select (cmpi .slt s (broadcastInDim S100000 ![] bcast_S_S100000 (constantI S_ 32 0#32)))
    (addi s (broadcastInDim S100000 ![] bcast_S_S100000 (constantI S_ 32 64#32))) s)

/-- The rows, each followed by the query of its graph. -/
def feats : FVec F S100000x256 .f32 :=
  concatenate S100000x256 1 [⟨S100000x128, h⟩, ⟨S100000x128, Host.gather gather_S64x128_S100000x1_S100000x128_1_0_n_n_0_1_1128 q (ids s)⟩]
    concatenates_S100000x128_S100000x128_S100000x256_d1

/-- The rows' products with the weights. -/
def prods : FVec F S100000x1 .f32 := Host.dotGeneral dot_S100000x256_S256x1_S100000x1_1_0_0_1_n_n none (feats h s q) w

/-- The logits. -/
def logits : FVec F S100000 .f32 :=
  shapeCast S100000 (select (cmpf .oge (prods h s q w) (broadcastInDim S100000x1 ![] bcast_S_S100000x1 (constant S_ .f32 0x00000000#32)))
    (prods h s q w) (mulf (broadcastInDim S100000x1 ![] bcast_S_S100000x1 (constant S_ .f32 0x3C23D70A#32)) (prods h s q w)))
    shapeCasts_S100000x1_S100000

/-- The greatest logit of each graph. -/
def tops : FVec F S64 .f32 :=
  Host.reduce FloatOps.maximumf
    (select (cmpi .eq (broadcastInDim S100000x64 ![0, 1] bcast_S100000x1_S100000x64_0_1 (col s))
        (broadcastInDim S100000x64 ![0, 1] bcast_S1x64_S100000x64_0_1 (broadcastInDim S1x64 ![1] bcast_S64_S1x64_1 (iotaInDim S64 32 0))))
      (broadcastInDim S100000x64 ![0, 1] bcast_S100000x1_S100000x64_0_1 (broadcastInDim S100000x1 ![0] bcast_S100000_S100000x1_0 (logits h s q w)))
      (broadcastInDim S100000x64 ![] bcast_S_S100000x64 (id (constant S_ .f32 0xFF800000#32))))
    (constant S_ .f32 0xFF800000#32) reducesTo_S100000x64_S64_d0 h_S_

/-- The rows' weights. -/
def weights : FVec F S100000 .f32 :=
  Host.exp (subf (logits h s q w) (Host.gather gather_S64_S100000x1_S100000_n_0_n_n_0_1_1 (tops h s q w) (ids s)))

/-- The sum of the weights of each graph. -/
def sums : FVec F S64 .f32 :=
  Host.scatterAdd scatter_S64_S100000x1_S100000_n_0_0_1 (broadcastInDim S64 ![] bcast_S_S64 (constant S_ .f32 0x00000000#32)) (col s)
    (weights h s q w)

/-- The rows' shares. -/
def shares : FVec F S100000 .f32 :=
  Host.divf (weights h s q w) (Host.gather gather_S64_S100000x1_S100000_n_0_n_n_0_1_1 (sums h s q w) (ids s))

/-- The rows times their shares. -/
def gated : FVec F S100000x128 .f32 :=
  mulf (extractStridedSlice S100000x128 ![0, 0] (feats h s q) slices_S100000x256_S100000x128_0_0)
    (broadcastInDim S100000x128 ![0, 1] bcast_S100000x1_S100000x128_0_1
      (broadcastInDim S100000x1 ![0] bcast_S100000_S100000x1_0 (shares h s q w)))

/-- The pooled features. -/
def pooled : FVec F S64x128 .f32 :=
  Host.scatterAdd scatter_S64x128_S100000x1_S100000x128_1_0_0_1 (broadcastInDim S64x128 ![] bcast_S_S64x128 (constant S_ .f32 0x00000000#32))
    (col s) (gated h s q w)

/-- The reference's result is the last stage. -/
theorem res_eq (m : (ℓ : Loc nD τ sig) → Buf (Elt F) ℓ) (c : Dev nD) :
    Value.res_main_v50 m c = pooled (m ((c : Thread nD τ).loc main_arg0)) (m ((c : Thread nD τ).loc main_arg1))
      (m ((c : Thread nD τ).loc main_arg2)) (m ((c : Thread nD τ).loc main_arg3)) := rfl

end Cert.ReferenceIdeal.Stages
-- ==== Proof.Shares.lean ====
/- The reference's stages at an entry: the pooled feature of the tables. -/
module

public import proofs.«01_k».proof.Proof.Stages
public import proofs.«01_k».proof.Proof.Tables
public import Idealize.ShloMosaic.Lib.Pointwise
public import Idealize.ShloMosaic.Lib.Pointwise.IndexBridge
public import Idealize.ShloMosaic.Lib.Routing.Ops
public import Idealize.ShloMosaic.Lib.Routing.OpsSet
public import Idealize.ShloMosaic.Lib.Routing.OpsPair

@[expose] public section

noncomputable section

namespace Cert.ReferenceIdeal.Stages

open Cert.ReferenceIdeal Cert.ReferenceIdeal.Gen Idealize.ShloMosaic Idealize.ShloMosaic.TcCoe Idealize.SL.Sem
open Idealize.ShloMosaic.Pointwise Cert.Pool

variable (h : FVec Ideal S100000x128 .f32) (s : IVec S100000 32) (q : FVec Ideal S64x128 .f32) (w : FVec Ideal S256x1 .f32)

/-- The inputs as tables. -/
def tables : Tables := ⟨fun n k => h (ix2 n k), fun n => s (ix1 n), fun i k => q (ix2 i k), fun k => w (ix2 k 0)⟩

theorem mem_iff (n : Fin 100000) (j : Fin 64) : (tables h s q w).mem j n.val ↔ s (ix1 n) = BitVec.ofNat 32 j.val := by
  unfold Tables.mem tables
  rw [row_val]

theorem col_apply (n : Fin 100000) : col s (ix2 n 0) = s (ix1 n) := by
  pointwise [col]

/-- A graph number is not negative. -/
theorem not_slt : ∀ j : Fin 64, (BitVec.ofNat 32 j.val).slt 0#32 = false := by decide

/-- A row's number in a table of 64 rows is its graph's number. -/
theorem ids_apply (n : Fin 100000) (j : Fin 64) (e : s (ix1 n) = BitVec.ofNat 32 j.val) : ids s (ix2 n 0) = BitVec.ofNat 32 j.val := by
  pointwise [ids, col]
  rw [e]
  show (if BitVec.ofBool ((BitVec.ofNat 32 j.val).slt 0#32) = 1#1 then _ else _) = _
  rw [not_slt j]
  rfl

/-- A row of graph `j` reads the graph's entry of a vector of 64. -/
theorem take_apply (v : FVec Ideal S64 .f32) (n : Fin 100000) (j : Fin 64) (e : s (ix1 n) = BitVec.ofNat 32 j.val) :
    Host.gather gather_S64_S100000x1_S100000_n_0_n_n_0_1_1 v (ids s) (ix1 n) = v (ix1 j) := by
  have := ids_apply s n j e
  rw [ix2_eq_valueIdx] at this
  rw [ix1_eq_valueIdx, ix1_eq_valueIdx]
  exact Routing.gather_take1 gather_S64_S100000x1_S100000_n_0_n_n_0_1_1 rfl rfl rfl rfl v (ids s) n j this (by decide)

/-- A row of graph `j` reads the graph's query. -/
theorem query_apply (n : Fin 100000) (j : Fin 64) (e : s (ix1 n) = BitVec.ofNat 32 j.val) (k : Fin 128) :
    Host.gather gather_S64x128_S100000x1_S100000x128_1_0_n_n_0_1_1128 q (ids s) (ix2 n k) = q (ix2 j k) := by
  have := ids_apply s n j e
  rw [ix2_eq_valueIdx] at this
  rw [ix2_eq_valueIdx, ix2_eq_valueIdx]
  exact Routing.gather_row gather_S64x128_S100000x1_S100000x128_1_0_n_n_0_1_1128 rfl rfl rfl rfl rfl q (ids s) n k j this (by decide)

/-- The logit of a row of graph `j`. -/
theorem logits_apply (n : Fin 100000) (j : Fin 64) (e : s (ix1 n) = BitVec.ofNat 32 j.val) :
    logits h s q w (ix1 n) = (tables h s q w).score j n.val := by
  have p : prods h s q w (ix2 n 0) = ∑ k, h (ix2 n k) * w (ix2 (lo k) 0) + ∑ k, q (ix2 j k) * w (ix2 (hi k) 0) := by
    pointwise [prods, feats]
    exact congrArg _ (Finset.sum_congr rfl fun k _ => by rw [query_apply s q n j e k]; rfl)
  pointwise [logits]
  rw [p]
  unfold Tables.score tables
  rw [row_val]
  rfl

/-- The greatest logit of graph `j`. -/
theorem tops_apply (j : Fin 64) :
    tops h s q w (ix1 j) = top ((tables h s q w).mem j) ((tables h s q w).score j) 100000 := by
  unfold top
  rw [← fold_max 100000 (fun r => if (tables h s q w).mem j r then (tables h s q w).score j r else ⊥), ← ofBits_neg_inf]
  pointwise [tops, col]
  refine congrArg (fun F => Finset.fold max _ F Finset.univ) (funext fun n => ?_)
  by_cases e : s (ix1 n) = BitVec.ofNat 32 j.val
  · rw [if_pos ((mem_iff h s q w n j).2 e), ← logits_apply h s q w n j e, e]
    show (if BitVec.ofBool (_ == _) = 1#1 then _ else _) = _
    rw [beq_self_eq_true]
    rfl
  · rw [if_neg (fun p => e ((mem_iff h s q w n j).1 p))]
    show (if BitVec.ofBool (_ == _) = 1#1 then _ else _) = _
    rw [beq_eq_false_iff_ne.2 e]
    rfl

/-- The weight of a row of graph `j`. -/
theorem weights_apply (n : Fin 100000) (j : Fin 64) (e : s (ix1 n) = BitVec.ofNat 32 j.val) :
    weights h s q w (ix1 n)
      = Ideal.exp ((tables h s q w).score j n.val - top ((tables h s q w).mem j) ((tables h s q w).score j) 100000) := by
  rw [← tops_apply, ← logits_apply h s q w n j e, ← take_apply s (tops h s q w) n j e]
  pointwise [weights]

/-- The signed value of a word is a graph number exactly when the word is. -/
theorem toInt_iff (a : BitVec 32) (j : Fin 64) : a.toInt = (j.val : ℤ) ↔ a = BitVec.ofNat 32 j.val := by
  have hj : (BitVec.ofNat 32 j.val).toInt = (j.val : ℤ) := by
    revert j; decide
  rw [← hj]
  exact BitVec.toInt_inj

/-- A row's entry lands at its graph. -/
theorem lands_one (n : Fin 100000) (j : Fin 64) :
    scatter_S64_S100000x1_S100000_n_0_0_1.resultIdx? (ix1 n) (col s) = some (ix1 j) ↔ s (ix1 n) = BitVec.ofNat 32 j.val := by
  have e : scatter_S64_S100000x1_S100000_n_0_0_1.start (ix1 n) (col s) 0 = (s (ix1 n)).toInt := by
    rw [← col_apply s n]
    unfold ScatterDims.start
    rw [dif_pos (by decide)]
    congr 2
    funext a
    fin_cases a <;> rfl
  have e' : scatter_S64_S100000x1_S100000_n_0_0_1.window (ix1 n) 0 = 0 := rfl
  rw [Routing.resultIdx?_eq_some, ← toInt_iff, ← e]
  constructor
  · intro p
    have := p 0
    rw [e'] at this
    simpa using this
  · intro p a
    obtain rfl : a = 0 := Subsingleton.elim _ _
    rw [e', p]
    simp

/-- Entry `k` of a row lands at entry `k` of its graph. -/
theorem lands_row (n : Fin 100000) (k d : Fin 128) (j : Fin 64) :
    scatter_S64x128_S100000x1_S100000x128_1_0_0_1.resultIdx? (ix2 n k) (col s) = some (ix2 j d)
      ↔ s (ix1 n) = BitVec.ofNat 32 j.val ∧ k = d := by
  have e : scatter_S64x128_S100000x1_S100000x128_1_0_0_1.start (ix2 n k) (col s) 0 = (s (ix1 n)).toInt := by
    rw [← col_apply s n]
    unfold ScatterDims.start
    rw [dif_pos (by decide)]
    congr 2
    funext a
    fin_cases a <;> rfl
  have e' : scatter_S64x128_S100000x1_S100000x128_1_0_0_1.window (ix2 n k) 0 = 0 := rfl
  have f : scatter_S64x128_S100000x1_S100000x128_1_0_0_1.start (ix2 n k) (col s) 1 = 0 := by
    unfold ScatterDims.start
    rw [dif_neg (by decide)]
  have f' : scatter_S64x128_S100000x1_S100000x128_1_0_0_1.window (ix2 n k) 1 = k.val := rfl
  rw [Routing.resultIdx?_eq_some, ← toInt_iff, ← e]
  constructor
  · intro p
    have p0 := p 0
    have p1 := p 1
    rw [e'] at p0
    rw [f, f'] at p1
    refine ⟨by simpa using p0, Fin.ext ?_⟩
    simpa using p1
  · rintro ⟨p, rfl⟩ a
    match a with
    | ⟨0, _⟩ => exact (by rw [e', p]; simp : scatter_S64x128_S100000x1_S100000x128_1_0_0_1.start (ix2 n k) (col s) 0
        + ((scatter_S64x128_S100000x1_S100000x128_1_0_0_1.window (ix2 n k) 0 : ℕ) : ℤ) = (j.val : ℤ))
    | ⟨1, _⟩ => exact (by rw [f, f']; simp : scatter_S64x128_S100000x1_S100000x128_1_0_0_1.start (ix2 n k) (col s) 1
        + ((scatter_S64x128_S100000x1_S100000x128_1_0_0_1.window (ix2 n k) 1 : ℕ) : ℤ) = (k.val : ℤ))

/-- The sum of the weights of graph `j`. -/
theorem sums_apply (j : Fin 64) :
    sums h s q w (ix1 j) = mass ((tables h s q w).mem j) ((tables h s q w).score j)
      (top ((tables h s q w).mem j) ((tables h s q w).score j) 100000) 100000 := by
  unfold mass wt
  rw [Finset.sum_range]
  have z : broadcastInDim S64 ![] bcast_S_S64 (constant (F := Ideal) S_ .f32 0x00000000#32) (ix1 j) = (0 : EReal) := by
    pointwise
  show Ideal.hostScatterAdd _ _ _ _ _ = _
  unfold Ideal.hostScatterAdd
  rw [Finset.sum_filter, z, zero_add]
  refine (sum_idx1 _).trans (Finset.sum_congr rfl fun n _ => ?_)
  by_cases e : s (ix1 n) = BitVec.ofNat 32 j.val
  · rw [if_pos ((lands_one s n j).2 e), if_pos ((mem_iff h s q w n j).2 e), weights_apply h s q w n j e]
  · rw [if_neg (fun p => e ((lands_one s n j).1 p)), if_neg (fun p => e ((mem_iff h s q w n j).1 p))]

/-- A row of graph `j` times its share. -/
theorem gated_apply (n : Fin 100000) (j : Fin 64) (e : s (ix1 n) = BitVec.ofNat 32 j.val) (d : Fin 128) :
    gated h s q w (ix2 n d)
      = (tables h s q w).feat d n.val
        * Ideal.div (Ideal.exp ((tables h s q w).score j n.val - top ((tables h s q w).mem j) ((tables h s q w).score j) 100000))
          (mass ((tables h s q w).mem j) ((tables h s q w).score j)
            (top ((tables h s q w).mem j) ((tables h s q w).score j) 100000) 100000) := by
  have f : (tables h s q w).feat d n.val = h (ix2 n d) := by
    unfold Tables.feat tables
    rw [row_val]
  rw [f, ← sums_apply, ← weights_apply h s q w n j e, ← take_apply s (sums h s q w) n j e]
  pointwise [gated, shares, feats]

/-- The reference's entry is the pooled feature. -/
theorem pooled_apply (j : Fin 64) (d : Fin 128) : pooled h s q w (ix2 j d) = (tables h s q w).value j d := by
  unfold Tables.value
  rw [Finset.sum_range]
  have z : broadcastInDim S64x128 ![] bcast_S_S64x128 (constant (F := Ideal) S_ .f32 0x00000000#32) (ix2 j d) = (0 : EReal) := by
    pointwise
  show Ideal.hostScatterAdd _ _ _ _ _ = _
  unfold Ideal.hostScatterAdd
  rw [Finset.sum_filter, z, zero_add]
  refine (sum_idx2 _).trans (Finset.sum_congr rfl fun n _ => ?_)
  by_cases e : s (ix1 n) = BitVec.ofNat 32 j.val
  · rw [if_pos ((mem_iff h s q w n j).2 e), ← gated_apply h s q w n j e d, Finset.sum_eq_single d]
    · rw [if_pos ((lands_row s n d d j).2 ⟨e, rfl⟩)]
    · intro k _ hk
      rw [if_neg (fun p => hk ((lands_row s n k d j).1 p).2)]
    · exact fun p => absurd (Finset.mem_univ d) p
  · rw [if_neg (fun p => e ((mem_iff h s q w n j).1 p))]
    exact Finset.sum_eq_zero fun k _ => if_neg (fun p => e ((lands_row s n k d j).1 p).1)

end Cert.ReferenceIdeal.Stages
-- ==== Proof.lean ====
/- The five claims: the kernel, its ideal form and the reference run without fault and keep their arguments, the
   ideal form has no rewrites, and on finite inputs kernel and reference agree over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.KernelIdeal.Value
public import proofs.«01_k».proof.Proof.Gen.KernelIdeal.Frame
public import proofs.«01_k».proof.Proof.Gen.Kernel.Frame
public import Idealize.ShloMosaic.Adequacy
public import Idealize.ShloMosaic.Init
public import Idealize.ShloMosaic.Lib.Quiescent
public import proofs.«01_k».proof.Proof.Finite
public import proofs.«01_k».proof.Proof.Pooled
public import proofs.«01_k».proof.Proof.Shares

@[expose] public section

noncomputable section

namespace Cert.Proof

open Idealize.ShloMosaic Idealize.SL.Sem Cert.Kernel

/-- The kernel's run leaves the arguments as they were and every counter at zero. -/
theorem quiescent_kernel : Cert.quiescent_Kernel (hKernel := Cert.Kernel.Gen.facts) :=
  fun m g _ => Cert.Kernel.Gen.frame m g

/-- The same of the kernel read over the extended reals. -/
theorem quiescent_kernelIdeal : Cert.quiescent_KernelIdeal (hKernelIdeal := Cert.KernelIdeal.Gen.facts) :=
  fun m g _ => Cert.KernelIdeal.Gen.frame m g

/-- The same of the reference, which has no semaphore at all. -/
theorem quiescent_referenceIdeal :
    Cert.quiescent_ReferenceIdeal (hReferenceIdeal := Cert.ReferenceIdeal.Gen.facts) :=
  fun m g _ => (θ_run _ _ _).mono (fun r h => ⟨fun c => (h c).2, sem_eq_zero_of_no_sems rfl r.2⟩)
    (Cert.ReferenceIdeal.Value.run m g)

/-- The frame of the kernel on finite inputs is a case of its frame. -/
theorem quiescent_kernelIdeal_pre : Cert.quiescent_KernelIdeal_pre_finite_inputs (hKernelIdeal := Cert.KernelIdeal.Gen.facts)
    (hPre_finite_inputs := Cert.Finite.facts) :=
  fun m g _ => Cert.KernelIdeal.Gen.frame m g

/-- The frame of the reference on finite inputs is a case of its frame. -/
theorem quiescent_referenceIdeal_pre : Cert.quiescent_ReferenceIdeal_pre_finite_inputs
    (hReferenceIdeal := Cert.ReferenceIdeal.Gen.facts) (hPre_finite_inputs := Cert.Finite.facts) :=
  fun m g _ => quiescent_referenceIdeal m g trivial

/-- On finite inputs the kernel and the reference, over the extended reals, end with the same pooled features. -/
theorem algebraic : Cert.algebraic_KernelIdeal_ReferenceIdeal_pre_finite_inputs (hKernelIdeal := Cert.KernelIdeal.Gen.facts)
    (hReferenceIdeal := Cert.ReferenceIdeal.Gen.facts) (hPre_finite_inputs := Cert.Finite.facts) := by
  intro m g m' g' hm hargs
  refine ⟨fun c => Cert.KernelIdeal.Value.G4 m c, Cert.KernelIdeal.Value.run m g, ?_⟩
  refine (θ_run _ _ _).mono (fun r h c => ⟨((h c).1).trans ?_, (h c).2⟩) (Cert.ReferenceIdeal.Value.run m' g')
  obtain ⟨e0, e1, e2, e3⟩ := hargs c
  rw [Cert.ReferenceIdeal.Stages.res_eq, e0, e1, e2, e3]
  funext i
  rw [eq_ix2 i]
  refine (Cert.ReferenceIdeal.Stages.pooled_apply _ _ _ _ _ _).trans ?_
  exact (Cert.KernelIdeal.Step.result_apply m c (Cert.Finite.real m c hm) _ _).symm

theorem claim : Cert.Claim := ⟨Cert.Kernel.Gen.facts, Cert.KernelIdeal.Gen.facts, Cert.ReferenceIdeal.Gen.facts, Cert.Finite.facts,
  quiescent_kernel, quiescent_kernelIdeal, quiescent_kernelIdeal_pre, quiescent_referenceIdeal, quiescent_referenceIdeal_pre,
  trivial, algebraic⟩

end Cert.Proof

end
